-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_action_in_vocab [hPre_action_in_vocab : Cert.Pre_action_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_action_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_action_in_vocab [hPre_action_in_vocab : Cert.Pre_action_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_action_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_action_in_vocab [hKernelIdeal : Cert.KernelIdeal.Facts] [hPre_action_in_vocab : Cert.Pre_action_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_action_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_action_in_vocab [hReferenceIdeal : Cert.ReferenceIdeal.Facts] [hPre_action_in_vocab : Cert.Pre_action_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_action_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_action_in_vocab [hKernelIdeal : Cert.KernelIdeal.Facts] [hReferenceIdeal : Cert.ReferenceIdeal.Facts] [hPre_action_in_vocab : Cert.Pre_action_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_action_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_action_in_vocab : Cert.Pre_action_in_vocab.Facts),
    quiescent_Kernel (hKernel := hKernel)
    ∧ quiescent_KernelIdeal (hKernelIdeal := hKernelIdeal)
    ∧ quiescent_KernelIdeal_pre_action_in_vocab (hKernelIdeal := hKernelIdeal) (hPre_action_in_vocab := hPre_action_in_vocab)
    ∧ quiescent_ReferenceIdeal (hReferenceIdeal := hReferenceIdeal)
    ∧ quiescent_ReferenceIdeal_pre_action_in_vocab (hReferenceIdeal := hReferenceIdeal) (hPre_action_in_vocab := hPre_action_in_vocab)
    ∧ preserves_Kernel_KernelIdeal
    ∧ algebraic_KernelIdeal_ReferenceIdeal_pre_action_in_vocab (hKernelIdeal := hKernelIdeal) (hReferenceIdeal := hReferenceIdeal) (hPre_action_in_vocab := hPre_action_in_vocab)
-- ==== Pre_action_in_vocab.lean ====
abbrev S8x1 : Shape := ⟨2, ![8, 1]⟩
abbrev S8x2048 : Shape := ⟨2, ![8, 2048]⟩
abbrev S1x8x2048 : Shape := ⟨3, ![1, 8, 2048]⟩
abbrev S8x128x2048 : Shape := ⟨3, ![8, 128, 2048]⟩
abbrev S16x256 : Shape := ⟨2, ![16, 256]⟩
abbrev S8192x2304 : Shape := ⟨2, ![8192, 2304]⟩
abbrev S8192x2048 : Shape := ⟨2, ![8192, 2048]⟩
abbrev S8192 : Shape := ⟨1, ![8192]⟩
abbrev S16x2048 : Shape := ⟨2, ![16, 2048]⟩
abbrev S16 : Shape := ⟨1, ![16]⟩
abbrev S_ : Shape := ⟨0, ![]⟩

class Facts : Prop where
  bcast_S_S8x1 : S_.BroadcastsInDim S8x1 (![] : Fin 0 → Fin S8x1.rank)

variable [Facts]

def fn {F : FTy → Type} [FloatOps F] (main_arg0 : IVec S8x1 32) (main_arg1 : FVec F S8x2048 .f32) (main_arg2 : FVec F S1x8x2048 .f32) (main_arg3 : FVec F S1x8x2048 .f32) (main_arg4 : FVec F S8x128x2048 .f32) (main_arg5 : FVec F S16x256 .f32) (main_arg6 : FVec F S8192x2304 .f32) (main_arg7 : FVec F S8192x2048 .f32) (main_arg8 : FVec F S8192 .f32) (main_arg9 : FVec F S8192 .f32) (main_arg10 : FVec F S16x2048 .f32) (main_arg11 : FVec F S16 .f32) : IVec S8x1 1 :=
  let main_c : IVec S_ 32 := constantI S_ 32 0#32
  let main_v0 : IVec S8x1 32 := broadcastInDim S8x1 ![] bcast_S_S8x1 main_c
  let main_v1 : IVec S8x1 1 := cmpi .sge main_arg0 main_v0
  let main_c_0 : IVec S_ 32 := constantI S_ 32 16#32
  let main_v2 : IVec S8x1 32 := broadcastInDim S8x1 ![] bcast_S_S8x1 main_c_0
  let main_v3 : IVec S8x1 1 := cmpi .slt main_arg0 main_v2
  let main_v4 : IVec S8x1 1 := andi main_v1 main_v3
  main_v4
-- ==== Kernel.lean ====
abbrev S8x1 : Shape := ⟨2, ![8, 1]⟩
abbrev S8x2048 : Shape := ⟨2, ![8, 2048]⟩
abbrev S1x8x2048 : Shape := ⟨3, ![1, 8, 2048]⟩
abbrev S8x128x2048 : Shape := ⟨3, ![8, 128, 2048]⟩
abbrev S16x256 : Shape := ⟨2, ![16, 256]⟩
abbrev S8192x2304 : Shape := ⟨2, ![8192, 2304]⟩
abbrev S8192x2048 : Shape := ⟨2, ![8192, 2048]⟩
abbrev S8192 : Shape := ⟨1, ![8192]⟩
abbrev S16x2048 : Shape := ⟨2, ![16, 2048]⟩
abbrev S16 : Shape := ⟨1, ![16]⟩
abbrev S4x2048x2304 : Shape := ⟨3, ![4, 2048, 2304]⟩
abbrev S4x2048x2048 : Shape := ⟨3, ![4, 2048, 2048]⟩
abbrev S4x1x2048 : Shape := ⟨3, ![4, 1, 2048]⟩
abbrev S1x16 : Shape := ⟨2, ![1, 16]⟩
abbrev S8x16 : Shape := ⟨2, ![8, 16]⟩
abbrev S8x128 : Shape := ⟨2, ![8, 128]⟩
abbrev S4x128x2304 : Shape := ⟨3, ![4, 128, 2304]⟩
abbrev S4x128x2048 : Shape := ⟨3, ![4, 128, 2048]⟩
abbrev S4x1x128 : Shape := ⟨3, ![4, 1, 128]⟩
abbrev S16x128 : Shape := ⟨2, ![16, 128]⟩
abbrev S8x256 : Shape := ⟨2, ![8, 256]⟩
abbrev S8x2304 : Shape := ⟨2, ![8, 2304]⟩
abbrev S512x2304 : Shape := ⟨2, ![512, 2304]⟩
abbrev S512x2048 : Shape := ⟨2, ![512, 2048]⟩
abbrev S2304x512 : Shape := ⟨2, ![2304, 512]⟩
abbrev S8x512 : Shape := ⟨2, ![8, 512]⟩
abbrev S2048x512 : Shape := ⟨2, ![2048, 512]⟩
abbrev S1x1x128 : Shape := ⟨3, ![1, 1, 128]⟩
abbrev S128 : Shape := ⟨1, ![128]⟩
abbrev S1x128 : Shape := ⟨2, ![1, 128]⟩
abbrev S128x16 : Shape := ⟨2, ![128, 16]⟩

abbrev nBuf : Space → Nat
  | .hbm => 24
  | .vmem => 22
  | .smem => 0
  | _ => 0

abbrev bufTy : (tb : Table) → Fin (tcTables nBuf tb) → BufTy
  | .hbm, ⟨0, _⟩ => ⟨S8x1, .i32⟩
  | .hbm, ⟨1, _⟩ => ⟨S8x2048, .f32⟩
  | .hbm, ⟨2, _⟩ => ⟨S1x8x2048, .f32⟩
  | .hbm, ⟨3, _⟩ => ⟨S1x8x2048, .f32⟩
  | .hbm, ⟨4, _⟩ => ⟨S8x128x2048, .f32⟩
  | .hbm, ⟨5, _⟩ => ⟨S16x256, .f32⟩
  | .hbm, ⟨6, _⟩ => ⟨S8192x2304, .f32⟩
  | .hbm, ⟨7, _⟩ => ⟨S8192x2048, .f32⟩
  | .hbm, ⟨8, _⟩ => ⟨S8192, .f32⟩
  | .hbm, ⟨9, _⟩ => ⟨S8192, .f32⟩
  | .hbm, ⟨10, _⟩ => ⟨S16x2048, .f32⟩
  | .hbm, ⟨11, _⟩ => ⟨S16, .f32⟩
  | .hbm, ⟨12, _⟩ => ⟨S8x2048, .f32⟩
  | .hbm, ⟨13, _⟩ => ⟨S8x2048, .f32⟩
  | .hbm, ⟨14, _⟩ => ⟨S4x2048x2304, .f32⟩
  | .hbm, ⟨15, _⟩ => ⟨S4x2048x2048, .f32⟩
  | .hbm, ⟨16, _⟩ => ⟨S4x1x2048, .f32⟩
  | .hbm, ⟨17, _⟩ => ⟨S4x1x2048, .f32⟩
  | .hbm, ⟨18, _⟩ => ⟨S1x16, .f32⟩
  | .hbm, ⟨19, _⟩ => ⟨S8x2048, .f32⟩
  | .hbm, ⟨20, _⟩ => ⟨S8x2048, .f32⟩
  | .hbm, ⟨21, _⟩ => ⟨S8x16, .f32⟩
  | .hbm, ⟨22, _⟩ => ⟨S1x8x2048, .f32⟩
  | .hbm, ⟨23, _⟩ => ⟨S1x8x2048, .f32⟩
  | .local _ .vmem, ⟨0, _⟩ => ⟨S8x1, .i32⟩
  | .local _ .vmem, ⟨1, _⟩ => ⟨S8x2048, .f32⟩
  | .local _ .vmem, ⟨2, _⟩ => ⟨S8x2048, .f32⟩
  | .local _ .vmem, ⟨3, _⟩ => ⟨S8x128, .f32⟩
  | .local _ .vmem, ⟨4, _⟩ => ⟨S8x128, .f32⟩
  | .local _ .vmem, ⟨5, _⟩ => ⟨S16x256, .f32⟩
  | .local _ .vmem, ⟨6, _⟩ => ⟨S4x128x2304, .f32⟩
  | .local _ .vmem, ⟨7, _⟩ => ⟨S4x128x2304, .f32⟩
  | .local _ .vmem, ⟨8, _⟩ => ⟨S4x128x2048, .f32⟩
  | .local _ .vmem, ⟨9, _⟩ => ⟨S4x128x2048, .f32⟩
  | .local _ .vmem, ⟨10, _⟩ => ⟨S4x1x128, .f32⟩
  | .local _ .vmem, ⟨11, _⟩ => ⟨S4x1x128, .f32⟩
  | .local _ .vmem, ⟨12, _⟩ => ⟨S4x1x128, .f32⟩
  | .local _ .vmem, ⟨13, _⟩ => ⟨S4x1x128, .f32⟩
  | .local _ .vmem, ⟨14, _⟩ => ⟨S16x128, .f32⟩
  | .local _ .vmem, ⟨15, _⟩ => ⟨S16x128, .f32⟩
  | .local _ .vmem, ⟨16, _⟩ => ⟨S1x16, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x16, .f32⟩
  | _, _ => ⟨S8x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_45 : BitVec 32 := 0#32
  let v85 : BitVec 1 := Scalar.cmpi .ne v84 c0_i32_45
  v85

def k0_cond2 (i : grid0.Coords) : BitVec 1 :=
  let arg0 : BitVec 32 := BitVec.ofNat 32 (i 0).val
  let c0_i32_46 : BitVec 32 := 0#32
  let v86 : BitVec 1 := Scalar.cmpi .sgt arg0 c0_i32_46
  let v87 : BitVec 32 := Scalar.extui v86
  let c0_i32_47 : BitVec 32 := 0#32
  let v88 : BitVec 1 := Scalar.cmpi .ne v87 c0_i32_47
  v88

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8x1 : Shape := ⟨2, ![8, 1]⟩
abbrev S8x2048 : Shape := ⟨2, ![8, 2048]⟩
abbrev S1x8x2048 : Shape := ⟨3, ![1, 8, 2048]⟩
abbrev S8x128x2048 : Shape := ⟨3, ![8, 128, 2048]⟩
abbrev S16x256 : Shape := ⟨2, ![16, 256]⟩
abbrev S8192x2304 : Shape := ⟨2, ![8192, 2304]⟩
abbrev S8192x2048 : Shape := ⟨2, ![8192, 2048]⟩
abbrev S8192 : Shape := ⟨1, ![8192]⟩
abbrev S16x2048 : Shape := ⟨2, ![16, 2048]⟩
abbrev S16 : Shape := ⟨1, ![16]⟩
abbrev S_ : Shape := ⟨0, ![]⟩
abbrev S8x1x1 : Shape := ⟨3, ![8, 1, 1]⟩
abbrev S1 : Shape := ⟨1, ![1]⟩
abbrev S1x1x1 : Shape := ⟨3, ![1, 1, 1]⟩
abbrev S8x1x256 : Shape := ⟨3, ![8, 1, 256]⟩
abbrev S8x256 : Shape := ⟨2, ![8, 256]⟩
abbrev S8x2304 : Shape := ⟨2, ![8, 2304]⟩
abbrev S2304x8192 : Shape := ⟨2, ![2304, 8192]⟩
abbrev S8x8192 : Shape := ⟨2, ![8, 8192]⟩
abbrev S1x8192 : Shape := ⟨2, ![1, 8192]⟩
abbrev S2048x8192 : Shape := ⟨2, ![2048, 8192]⟩
abbrev S2048x16 : Shape := ⟨2, ![2048, 16]⟩
abbrev S8x16 : Shape := ⟨2, ![8, 16]⟩
abbrev S1x16 : Shape := ⟨2, ![1, 16]⟩

abbrev nBuf : Space → Nat
  | .hbm => 91
  | .vmem => 0
  | .smem => 0
  | _ => 0

abbrev bufTy : (tb : Table) → Fin (tcTables nBuf tb) → BufTy
  | .hbm, ⟨0, _⟩ => ⟨S8x1, .i32⟩
  | .hbm, ⟨1, _⟩ => ⟨S8x2048, .f32⟩
  | .hbm, ⟨2, _⟩ => ⟨S1x8x2048, .f32⟩
  | .hbm, ⟨3, _⟩ => ⟨S1x8x2048, .f32⟩
  | .hbm, ⟨4, _⟩ => ⟨S8x128x2048, .f32⟩
  | .hbm, ⟨5, _⟩ => ⟨S16x256, .f32⟩
  | .hbm, ⟨6, _⟩ => ⟨S8192x2304, .f32⟩
  | .hbm, ⟨7, _⟩ => ⟨S8192x2048, .f32⟩
  | .hbm, ⟨8, _⟩ => ⟨S8192, .f32⟩
  | .hbm, ⟨9, _⟩ => ⟨S8192, .f32⟩
  | .hbm, ⟨10, _⟩ => ⟨S16x2048, .f32⟩
  | .hbm, ⟨11, _⟩ => ⟨S16, .f32⟩
  | .hbm, ⟨12, _⟩ => ⟨S_, .i32⟩
  | .hbm, ⟨13, _⟩ => ⟨S8x1, .i32⟩
  | .hbm, ⟨14, _⟩ => ⟨S8x1, .i1⟩
  | .hbm, ⟨15, _⟩ => ⟨S_, .i32⟩
  | .hbm, ⟨16, _⟩ => ⟨S8x1, .i32⟩
  | .hbm, ⟨17, _⟩ => ⟨S8x1, .i32⟩
  | .hbm, ⟨18, _⟩ => ⟨S8x1, .i32⟩
  | .hbm, ⟨19, _⟩ => ⟨S8x1x1, .i32⟩
  | .hbm, ⟨20, _⟩ => ⟨S1, .i32⟩
  | .hbm, ⟨21, _⟩ => ⟨S_, .i32⟩
  | .hbm, ⟨22, _⟩ => ⟨S8x1x1, .i32⟩
  | .hbm, ⟨23, _⟩ => ⟨S8x1x1, .i1⟩
  | .hbm, ⟨24, _⟩ => ⟨S1x1x1, .i32⟩
  | .hbm, ⟨25, _⟩ => ⟨S8x1x1, .i32⟩
  | .hbm, ⟨26, _⟩ => ⟨S8x1x1, .i1⟩
  | .hbm, ⟨27, _⟩ => ⟨S8x1x1, .i1⟩
  | .hbm, ⟨28, _⟩ => ⟨S_, .i1⟩
  | .hbm, ⟨29, _⟩ => ⟨S8x1, .i1⟩
  | .hbm, ⟨30, _⟩ => ⟨S8x1x256, .f32⟩
  | .hbm, ⟨31, _⟩ => ⟨S8x1x256, .i1⟩
  | .hbm, ⟨32, _⟩ => ⟨S_, .f32⟩
  | .hbm, ⟨33, _⟩ => ⟨S8x1x256, .f32⟩
  | .hbm, ⟨34, _⟩ => ⟨S8x1x256, .f32⟩
  | .hbm, ⟨35, _⟩ => ⟨S8x256, .f32⟩
  | .hbm, ⟨36, _⟩ => ⟨S8x2304, .f32⟩
  | .hbm, ⟨37, _⟩ => ⟨S8x2048, .f32⟩
  | .hbm, ⟨38, _⟩ => ⟨S8x2048, .f32⟩
  | .hbm, ⟨39, _⟩ => ⟨S2304x8192, .f32⟩
  | .hbm, ⟨40, _⟩ => ⟨S8x8192, .f32⟩
  | .hbm, ⟨41, _⟩ => ⟨S1x8192, .f32⟩
  | .hbm, ⟨42, _⟩ => ⟨S8x8192, .f32⟩
  | .hbm, ⟨43, _⟩ => ⟨S8x8192, .f32⟩
  | .hbm, ⟨44, _⟩ => ⟨S2048x8192, .f32⟩
  | .hbm, ⟨45, _⟩ => ⟨S8x8192, .f32⟩
  | .hbm, ⟨46, _⟩ => ⟨S8x8192, .f32⟩
  | .hbm, ⟨47, _⟩ => ⟨S1x8192, .f32⟩
  | .hbm, ⟨48, _⟩ => ⟨S8x8192, .f32⟩
  | .hbm, ⟨49, _⟩ => ⟨S8x8192, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S_, .f32⟩
  | .hbm, ⟨65, _⟩ => ⟨S8x2048, .f32⟩
  | .hbm, ⟨66, _⟩ => ⟨S8x2048, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S8x2048, .f32⟩
  | .hbm, ⟨71, _⟩ => ⟨S8x2048, .f32⟩
  | .hbm, ⟨72, _⟩ => ⟨S8x2048, .f32⟩
  | .hbm, ⟨73, _⟩ => ⟨S_, .f32⟩
  | .hbm, ⟨74, _⟩ => ⟨S8x2048, .f32⟩
  | .hbm, ⟨75, _⟩ => ⟨S8x2048, .f32⟩
  | .hbm, ⟨76, _⟩ => ⟨S_, .f32⟩
  | .hbm, ⟨77, _⟩ => ⟨S8x2048, .f32⟩
  | .hbm, ⟨78, _⟩ => ⟨S8x2048, .f32⟩
  | .hbm, ⟨79, _⟩ => ⟨S8x2048, .f32⟩
  | .hbm, ⟨80, _⟩ => ⟨S8x2048, .f32⟩
  | .hbm, ⟨81, _⟩ => ⟨S8x2048, .f32⟩
  | .hbm, ⟨82, _⟩ => ⟨S8x2048, .f32⟩
  | .hbm, ⟨83, _⟩ => ⟨S8x2048, .f32⟩
  | .hbm, ⟨84, _⟩ => ⟨S2048x16, .f32⟩
  | .hbm, ⟨85, _⟩ => ⟨S8x16, .f32⟩
  | .hbm, ⟨86, _⟩ => ⟨S1x16, .f32⟩
  | .hbm, ⟨87, _⟩ => ⟨S8x16, .f32⟩
  | .hbm, ⟨88, _⟩ => ⟨S8x16, .f32⟩
  | .hbm, ⟨89, _⟩ => ⟨S1x8x2048, .f32⟩
  | .hbm, ⟨90, _⟩ => ⟨S1x8x2048, .f32⟩
  | _, _ => ⟨S8x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst : Ref sig .tc := ⟨.hbm, 56, rfl⟩
abbrev main_v22 : Ref sig .tc := ⟨.hbm, 57, rfl⟩
abbrev main_v23 : Ref sig .tc := ⟨.hbm, 58, rfl⟩
abbrev main_cst_0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_3 : Ref sig .tc := ⟨.hbm, 73, rfl⟩
abbrev main_v35 : Ref sig .tc := ⟨.hbm, 74, rfl⟩
abbrev main_v36 : Ref sig .tc := ⟨.hbm, 75, rfl⟩
abbrev main_cst_4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]
-- ==== Proof.Spec.lean ====
/- One step of the LSTM decoder over the extended reals, written element by element: the functions both programs'
   results are compared with. No program is mentioned here. -/
module

public import Idealize.ShloMosaic.PureOps
public import Idealize.ShloMosaic.Lib.Pointwise

@[expose] public section

noncomputable section

namespace Cert.Spec

open Idealize.ShloMosaic

/-- The arrays the step is a function of: a batch of 8 rows, an embedding of width 256 over 16 words, a feature and a
    hidden state of width 2048, the two gate weight matrices and biases of 4·2048 rows, and the output projection. -/
structure Args where
  act : IVec ⟨2, ![8, 1]⟩ 32
  feat : FVec Ideal ⟨2, ![8, 2048]⟩ .f32
  h0 : FVec Ideal ⟨3, ![1, 8, 2048]⟩ .f32
  c0 : FVec Ideal ⟨3, ![1, 8, 2048]⟩ .f32
  emb : FVec Ideal ⟨2, ![16, 256]⟩ .f32
  wih : FVec Ideal ⟨2, ![8192, 2304]⟩ .f32
  whh : FVec Ideal ⟨2, ![8192, 2048]⟩ .f32
  bih : FVec Ideal ⟨1, ![8192]⟩ .f32
  bhh : FVec Ideal ⟨1, ![8192]⟩ .f32
  wout : FVec Ideal ⟨2, ![16, 2048]⟩ .f32
  bout : FVec Ideal ⟨1, ![16]⟩ .f32

/-- Every action is the number of a word. -/
def Args.InVocab (A : Args) : Prop := ∀ b : Fin 8, (A.act (ix2 b 0)).toNat < 16

/-- The word batch row `b` chose, reduced modulo the vocabulary. -/
def word (A : Args) (b : Fin 8) : Fin 16 := ⟨(A.act (ix2 b 0)).toNat % 16, Nat.mod_lt _ (by decide)⟩

/-- Row `2048 k + j` of the stacked gate matrices: unit `j` of gate `k`. -/
def row (k : Fin 4) (j : Fin 2048) : Fin 8192 := ⟨k.val * 2048 + j.val, by omega⟩

/-- Row `n` of the input weights times the step's input in batch row `b`: its first 256 columns meet the chosen word's
    embedding, the other 2048 the feature. -/
def proj (A : Args) (b : Fin 8) (n : Fin 8192) : EReal :=
  (∑ i : Fin 256, A.emb (ix2 (word A b) i) * A.wih (ix2 n ⟨i.val, by omega⟩))
    + ∑ i : Fin 2048, A.feat (ix2 b i) * A.wih (ix2 n ⟨256 + i.val, by omega⟩)

/-- The pre-activation of gate `k`, unit `j`, batch row `b`. -/
def gate (A : Args) (k : Fin 4) (b : Fin 8) (j : Fin 2048) : EReal :=
  proj A b (row k j) + A.bih (ix1 (row k j))
    + (∑ i : Fin 2048, A.h0 (ix3 0 b i) * A.whh (ix2 (row k j) i)) + A.bhh (ix1 (row k j))

/-- The new cell state: the forget gate times the old one plus the input gate times the candidate. -/
def cell (A : Args) (b : Fin 8) (j : Fin 2048) : EReal :=
  Ideal.logistic (gate A 1 b j) * A.c0 (ix3 0 b j) + Ideal.logistic (gate A 0 b j) * Ideal.tanh (gate A 2 b j)

/-- The new hidden state: the output gate times the squashed cell state. -/
def hid (A : Args) (b : Fin 8) (j : Fin 2048) : EReal :=
  Ideal.logistic (gate A 3 b j) * Ideal.tanh (cell A b j)

/-- The score of word `v` in batch row `b`. -/
def logit (A : Args) (b : Fin 8) (v : Fin 16) : EReal :=
  (∑ j : Fin 2048, hid A b j * A.wout (ix2 v j)) + A.bout (ix1 v)

end Cert.Spec

end
-- ==== Proof.Tile.lean ====
/- What one grid point of the kernel computes, at an index: its 128 units of each gate, the cell state and the hidden
   state are those of the step; its contribution to the scores is a partial sum over those units. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.Pipeline.Value
public import Idealize.ShloMosaic.Lib.Pipeline.ValueKit

@[expose] public section

set_option maxRecDepth 16384

noncomputable section

namespace Cert.Tile

open Idealize.ShloMosaic Idealize.ShloMosaic.TcCoe Idealize.SL.Sem
open Cert.KernelIdeal Cert.KernelIdeal.Gen Cert.Spec

/-- Unit `l` of tile `t`. -/
def unit (t : Fin 16) (l : Fin 128) : Fin 2048 := ⟨t.val * 128 + l.val, by omega⟩

/-- Column `128 k + l` of a tile's four gates side by side. -/
def col (k : Fin 4) (l : Fin 128) : Fin 512 := ⟨k.val * 128 + l.val, by omega⟩

/-- A bit that says whether two words agree, widened and read as a number, is 1 or 0. -/
theorem onehot_entry (a : BitVec 32) (v : Fin 16) :
    (FloatOps.sitofp (F := Ideal) .f32 ((IntOp.cmpi .eq a (BitVec.ofNat 32 v.val)).setWidth 32) : EReal)
      = if a.toNat = v.val then 1 else 0 := by
  rw [WordCmp.cmpi_eq_eq_toNat, WordCmp.toNat_ofNat_of_lt (by omega)]
  by_cases h : a.toNat = v.val
  · rw [decide_eq_true h, if_pos h]
    show (((1 : ℤ) : ℝ) : EReal) = 1
    norm_num
  · rw [decide_eq_false h, if_neg h]
    show (((0 : ℤ) : ℝ) : EReal) = 0
    norm_num

/-- The one-hot row of the action's word times the embedding is the word's embedding. Infinite entries of the other
    words do not matter: zero times anything is zero. -/
theorem onehot_row (A : Args) (hA : A.InVocab) (b : Fin 8) (j : Fin 256) :
    (∑ v : Fin 16, FloatOps.sitofp (F := Ideal) .f32
          ((IntOp.cmpi .eq (A.act (ix2 b 0)) (BitVec.ofNat 32 v.val)).setWidth 32) * A.emb (ix2 v j))
      = A.emb (ix2 (word A b) j) := by
  have hw : (word A b).val = (A.act (ix2 b 0)).toNat := Nat.mod_eq_of_lt (hA b)
  rw [Finset.sum_eq_single (word A b)]
  · rw [onehot_entry, if_pos hw.symm, one_mul]
  · intro v _ hv
    rw [onehot_entry, if_neg fun h => hv (Fin.ext (by rw [hw, h])), zero_mul]
  · intro h; exact absurd (Finset.mem_univ _) h

/-- What tile `t` has loaded, as the step's arrays: its rows of the weights, its pieces of the biases and of the old
    cell state, its columns of the output projection. -/
structure Loaded (A : Args) (t : Fin 16) (act : Vec Ideal S8x1 .i32) (feat h0 : Vec Ideal S8x2048 .f32)
    (c0 : Vec Ideal S8x128 .f32) (emb : Vec Ideal S16x256 .f32) (wih : Vec Ideal S4x128x2304 .f32)
    (whh : Vec Ideal S4x128x2048 .f32) (bih bhh : Fin 4 → Vec Ideal S1x1x128 .f32) : Prop where
  act_eq : act = A.act
  feat_eq : feat = A.feat
  h0_at : ∀ b i, h0 (ix2 b i) = A.h0 (ix3 0 b i)
  c0_at : ∀ b l, c0 (ix2 b l) = A.c0 (ix3 0 b (unit t l))
  emb_eq : emb = A.emb
  wih_at : ∀ k l i, wih (ix3 k l i) = A.wih (ix2 (row k (unit t l)) i)
  whh_at : ∀ k l i, whh (ix3 k l i) = A.whh (ix2 (row k (unit t l)) i)
  bih_at : ∀ k l, bih k (ix3 0 0 l) = A.bih (ix1 (row k (unit t l)))
  bhh_at : ∀ k l, bhh k (ix3 0 0 l) = A.bhh (ix1 (row k (unit t l)))

section
variable {A : Args} {t : Fin 16} {act : Vec Ideal S8x1 .i32} {feat h0 : Vec Ideal S8x2048 .f32}
  {c0 : Vec Ideal S8x128 .f32} {emb : Vec Ideal S16x256 .f32} {wih : Vec Ideal S4x128x2304 .f32}
  {whh : Vec Ideal S4x128x2048 .f32} {bih bhh : Fin 4 → Vec Ideal S1x1x128 .f32}

/-- The tile's two matrix products, summed, at gate `k` and unit `l`. -/
theorem pre_at (hA : A.InVocab) (L : Loaded A t act feat h0 c0 emb wih whh bih bhh) (k : Fin 4) (b : Fin 8) (l : Fin 128) :
    k0_pay5 act emb feat h0 wih whh (ix2 b (col k l))
      = proj A b (row k (unit t l)) + ∑ i : Fin 2048, A.h0 (ix3 0 b i) * A.whh (ix2 (row k (unit t l)) i) := by
  have hrow : ∀ (k' : Fin 4) (l' : Fin 128), k'.val = (col k l).val / 128 → l'.val = (col k l).val % 128 →
      row k' (unit t l') = row k (unit t l) := by
    intro k' l' h1 h2
    have h3 : (col k l).val = k.val * 128 + l.val := rfl
    rw [show k' = k from Fin.ext (by omega), show l' = l from Fin.ext (by omega)]
  obtain ⟨rfl, rfl, hh, -, rfl, hw, hv, -, -⟩ := L
  pointwise [k0_pay5]
  unfold proj
  refine congrArg₂ (· + ·) (congrArg₂ (· + ·) (Finset.sum_congr rfl fun i _ => ?_) (Finset.sum_congr rfl fun i _ => ?_))
    (Finset.sum_congr rfl fun i _ => ?_)
  · exact congrArg₂ (· * ·) (onehot_row A hA b i)
      ((hw _ _ _).trans (congrArg (fun r => A.wih (ix2 r _)) (hrow _ _ rfl rfl)))
  · exact congrArg (_ * ·) ((hw _ _ _).trans (congrArg (fun r => A.wih (ix2 r _)) (hrow _ _ rfl rfl)))
  · exact congrArg₂ (· * ·) (hh _ _) ((hv _ _ _).trans (congrArg (fun r => A.whh (ix2 r _)) (hrow _ _ rfl rfl)))

/-- The tile's pre-activation of gate `k`: the products and the two biases, in the order the kernel adds them. -/
theorem gate_at (hA : A.InVocab) (L : Loaded A t act feat h0 c0 emb wih whh bih bhh) (k : Fin 4) (b : Fin 8) (l : Fin 128) :
    k0_pay5 act emb feat h0 wih whh (ix2 b (col k l)) + bih k (ix3 0 0 l) + bhh k (ix3 0 0 l) = gate A k b (unit t l) := by
  rw [pre_at hA L, L.bih_at, L.bhh_at]
  unfold gate
  rw [add_right_comm (proj _ _ _)]

/-- Gate 0's columns of the tile are its first 128. -/
theorem col_zero (l : Fin 128) : col 0 l = ⟨l.val, by omega⟩ := Fin.ext (by show 0 * 128 + l.val = l.val; omega)

/-- The cell state the tile stores is the step's. -/
theorem cell_at (hA : A.InVocab) (L : Loaded A t act feat h0 c0 emb wih whh bih bhh) (b : Fin 8) (l : Fin 128) :
    k0_pay9 (k0_pay5 act emb feat h0 wih whh) (k0_pay6 act emb feat h0 wih whh (bih 0) (bhh 0))
      (k0_pay7 act emb feat h0 wih whh) (bih 1) (bhh 1) (bih 2) (bhh 2) c0 (ix2 b l) = cell A b (unit t l) := by
  unfold cell
  simp only [← gate_at hA L, ← L.c0_at, col_zero]
  generalize hp : k0_pay5 act emb feat h0 wih whh = p
  pointwise [k0_pay9, k0_pay6, k0_pay7, hp]
  rfl

/-- The hidden state the tile stores is the step's, where the cell state it is computed from is. -/
theorem hid_at (hA : A.InVocab) (L : Loaded A t act feat h0 c0 emb wih whh bih bhh) (b : Fin 8) (l : Fin 128)
    (c : FVec Ideal S8x128 .f32) (hc : c (ix2 b l) = cell A b (unit t l)) :
    k0_pay1 (k0_pay8 (k0_pay5 act emb feat h0 wih whh) (bih 3) (bhh 3)) c (ix2 b l) = hid A b (unit t l) := by
  unfold hid
  simp only [← gate_at hA L, ← hc]
  generalize k0_pay5 act emb feat h0 wih whh = p
  pointwise [k0_pay8, k0_pay1]
  rfl

/-- The tile's share of word `v`'s score: the sum over its own 128 units. -/
def share (A : Args) (b : Fin 8) (v : Fin 16) (t : Fin 16) : EReal :=
  ∑ l : Fin 128, hid A b (unit t l) * A.wout (ix2 v (unit t l))

/-- The first tile's scores: its share plus the bias. -/
theorem first_at (o c : FVec Ideal S8x128 .f32) (w : Vec Ideal S16x128 .f32) (d : Vec Ideal S1x16 .f32) (b : Fin 8) (v : Fin 16)
    (hh : ∀ l, k0_pay1 o c (ix2 b l) = hid A b (unit t l)) (hw : ∀ l, w (ix2 v l) = A.wout (ix2 v (unit t l))) :
    k0_pay3 o c w d (ix2 b v) = share A b v t + d (ix2 0 v) := by
  pointwise [k0_pay3, k0_pay2]
  exact congrArg (· + _) (Finset.sum_congr rfl fun l _ => congrArg₂ (· * ·) (hh l) (hw l))

/-- A later tile's scores: those before it plus its share. -/
theorem later_at (o c : FVec Ideal S8x128 .f32) (w : Vec Ideal S16x128 .f32) (d : Vec Ideal S8x16 .f32) (b : Fin 8) (v : Fin 16)
    (hh : ∀ l, k0_pay1 o c (ix2 b l) = hid A b (unit t l)) (hw : ∀ l, w (ix2 v l) = A.wout (ix2 v (unit t l))) :
    k0_pay4 o c w d (ix2 b v) = d (ix2 b v) + share A b v t := by
  pointwise [k0_pay4, k0_pay2]
  exact congrArg (_ + ·) (Finset.sum_congr rfl fun l _ => congrArg₂ (· * ·) (hh l) (hw l))

end

/-- The shares of the 16 tiles add up to the sum over all 2048 units, and the bias makes it the score. -/
theorem shares (A : Args) (b : Fin 8) (v : Fin 16) : (∑ t : Fin 16, share A b v t) + A.bout (ix1 v) = logit A b v := by
  unfold logit
  refine congrArg (· + _) ?_
  unfold share
  rw [← Fintype.sum_prod_type' (f := fun (t : Fin 16) (l : Fin 128) => hid A b (unit t l) * A.wout (ix2 v (unit t l)))]
  exact Fintype.sum_equiv (finProdFinEquiv (m := 16) (n := 128)) _ _ fun p => by
    have h : unit p.1 p.2 = finProdFinEquiv p := Fin.ext (by show p.1.val * 128 + p.2.val = p.2.val + 128 * p.1.val; omega)
    rw [h]

end Cert.Tile

end
-- ==== Proof.Arrays.lean ====
/- What the kernel's three result arrays hold after the last grid point: the step's hidden state, cell state and scores,
   over the argument arrays the kernel was launched with. -/
module

public import proofs.«01_k».proof.Proof.Gen.KernelIdeal.Frame
public import proofs.«01_k».proof.Proof.Tile
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.Spec Cert.Tile

variable (m : (ℓ : Loc nD τ sig) → Buf (Elt Ideal) ℓ)

/-- The step's arrays, as the kernel's arguments hold them on device `c`. -/
def args (c : Dev nD) : Args where
  act := m ((c.tc : Thread nD τ).loc main_arg0)
  feat := m ((c.tc : Thread nD τ).loc main_arg1)
  h0 := m ((c.tc : Thread nD τ).loc main_arg2)
  c0 := m ((c.tc : Thread nD τ).loc main_arg3)
  emb := m ((c.tc : Thread nD τ).loc main_arg5)
  wih := m ((c.tc : Thread nD τ).loc main_arg6)
  whh := m ((c.tc : Thread nD τ).loc main_arg7)
  bih := m ((c.tc : Thread nD τ).loc main_arg8)
  bhh := m ((c.tc : Thread nD τ).loc main_arg9)
  wout := m ((c.tc : Thread nD τ).loc main_arg10)
  bout := m ((c.tc : Thread nD τ).loc main_arg11)

/-- Where each window stands at grid point `t`: the whole arrays stay, the tiled ones move with `t`. -/
theorem idx : ∀ t : Fin cfg0.N,
    win0_0.index t = ![0, 0] ∧ win0_1.index t = ![0, 0] ∧ win0_2.index t = ![0, 0] ∧ win0_3.index t = ![0, t.val]
    ∧ win0_4.index t = ![0, 0] ∧ win0_5.index t = ![0, t.val, 0] ∧ win0_6.index t = ![0, t.val, 0]
    ∧ win0_7.index t = ![0, 0, t.val] ∧ win0_8.index t = ![0, 0, t.val] ∧ win0_9.index t = ![0, t.val]
    ∧ win0_10.index t = ![0, 0] ∧ win0_11.index t = ![0, t.val] ∧ win0_12.index t = ![0, t.val]
    ∧ win0_13.index t = ![0, 0] :=
  (by decide +kernel : ∀ t : Fin grid0.N, _)

/-- The grid point as a tile number. -/
def tile (t : Fin cfg0.N) : Fin 16 := ⟨t.val, t.isLt.trans_eq N_0⟩

/-- What a buffer holds when the grid starts: the launch contents after the seven reshapes. -/
theorem start (c : Dev nD) (r : Ref sig .tc) :
    V m c r = StableHlo.after (hostOps0 (F := Ideal)) (fun b => m (c, b)) (Proc.devRef .tc r) := rfl

/-- The old hidden state, without its leading axis. -/
theorem v0_at (c : Dev nD) (b : Fin 8) (i : Fin 2048) :
    (V m c main_v0 : Vec Ideal S8x2048 .f32) (ix2 b i) = (args m c).h0 (ix3 0 b i) := by
  rw [start]
  unfold args
  entry_read
  pointwise

/-- The old cell state, without its leading axis. -/
theorem v1_at (c : Dev nD) (b : Fin 8) (i : Fin 2048) :
    (V m c main_v1 : Vec Ideal S8x2048 .f32) (ix2 b i) = (args m c).c0 (ix3 0 b i) := by
  rw [start]
  unfold args
  entry_read
  pointwise

/-- The input weights, gate by gate. -/
theorem v2_at (c : Dev nD) (k : Fin 4) (j : Fin 2048) (i : Fin 2304) :
    (V m c main_v2 : Vec Ideal S4x2048x2304 .f32) (ix3 k j i) = (args m c).wih (ix2 (row k j) i) := by
  rw [start]
  unfold args
  entry_read
  pointwise
  rfl

/-- The recurrent weights, gate by gate. -/
theorem v3_at (c : Dev nD) (k : Fin 4) (j : Fin 2048) (i : Fin 2048) :
    (V m c main_v3 : Vec Ideal S4x2048x2048 .f32) (ix3 k j i) = (args m c).whh (ix2 (row k j) i) := by
  rw [start]
  unfold args
  entry_read
  pointwise
  rfl

/-- The input bias, gate by gate. -/
theorem v4_at (c : Dev nD) (k : Fin 4) (j : Fin 2048) :
    (V m c main_v4 : Vec Ideal S4x1x2048 .f32) (ix3 k 0 j) = (args m c).bih (ix1 (row k j)) := by
  rw [start]
  unfold args
  entry_read
  pointwise
  rfl

/-- The recurrent bias, gate by gate. -/
theorem v5_at (c : Dev nD) (k : Fin 4) (j : Fin 2048) :
    (V m c main_v5 : Vec Ideal S4x1x2048 .f32) (ix3 k 0 j) = (args m c).bhh (ix1 (row k j)) := by
  rw [start]
  unfold args
  entry_read
  pointwise
  rfl

/-- The output bias, as a row. -/
theorem v6_at (c : Dev nD) (v : Fin 16) :
    (V m c main_v6 : Vec Ideal S1x16 .f32) (ix2 0 v) = (args m c).bout (ix1 v) := by
  rw [start]
  unfold args
  entry_read
  pointwise

/-- A tile's unit as the window over a tiled axis counts it: the tiles before it, 128 units each, then its own. -/
theorem unit_val (t : Fin cfg0.N) (l : Fin 128) : (unit (tile t) l).val = t.val * 128 + l.val := rfl

/-- Every point sees all the action words. -/
theorem blk_act (c : Dev nD) (t : Fin cfg0.N) : (iblk m c 0 t : Vec Ideal S8x1 .i32) = (args m c).act := by
  unfold args
  blk_ext! [iblk, V, idx t]

/-- Every point sees all the image features. -/
theorem blk_feat (c : Dev nD) (t : Fin cfg0.N) : (iblk m c 1 t : Vec Ideal S8x2048 .f32) = (args m c).feat := by
  unfold args
  blk_ext! [iblk, V, idx t]

/-- Every point sees the whole embedding table. -/
theorem blk_emb (c : Dev nD) (t : Fin cfg0.N) : (iblk m c 4 t : Vec Ideal S16x256 .f32) = (args m c).emb := by
  unfold args
  blk_ext! [iblk, V, idx t]

/-- Every point sees all of the old hidden state. -/
theorem blk_h0 (c : Dev nD) (t : Fin cfg0.N) (b : Fin 8) (i : Fin 2048) :
    (iblk m c 2 t : Vec Ideal S8x2048 .f32) (ix2 b i) = (args m c).h0 (ix3 0 b i) := by
  rw [← v0_at]
  blk_ext [iblk, idx t]

/-- A point sees its units' old cell state. -/
theorem blk_c0 (c : Dev nD) (t : Fin cfg0.N) (b : Fin 8) (l : Fin 128) :
    (iblk m c 3 t : Vec Ideal S8x128 .f32) (ix2 b l) = (args m c).c0 (ix3 0 b (unit (tile t) l)) := by
  rw [← v1_at]
  blk_ext [iblk, idx t, unit_val]

/-- A point sees its units' rows of the input weights, of all four gates. -/
theorem blk_wih (c : Dev nD) (t : Fin cfg0.N) (k : Fin 4) (l : Fin 128) (i : Fin 2304) :
    (iblk m c 5 t : Vec Ideal S4x128x2304 .f32) (ix3 k l i) = (args m c).wih (ix2 (row k (unit (tile t) l)) i) := by
  rw [← v2_at]
  blk_ext [iblk, idx t, unit_val]

/-- A point sees its units' rows of the recurrent weights, of all four gates. -/
theorem blk_whh (c : Dev nD) (t : Fin cfg0.N) (k : Fin 4) (l : Fin 128) (i : Fin 2048) :
    (iblk m c 6 t : Vec Ideal S4x128x2048 .f32) (ix3 k l i) = (args m c).whh (ix2 (row k (unit (tile t) l)) i) := by
  rw [← v3_at]
  blk_ext [iblk, idx t, unit_val]

/-- A point sees its units' entries of the input bias. -/
theorem blk_bih (c : Dev nD) (t : Fin cfg0.N) (k : Fin 4) (l : Fin 128) :
    (iblk m c 7 t : Vec Ideal S4x1x128 .f32) (ix3 k 0 l) = (args m c).bih (ix1 (row k (unit (tile t) l))) := by
  rw [← v4_at]
  blk_ext [iblk, idx t, unit_val]

/-- A point sees its units' entries of the recurrent bias. -/
theorem blk_bhh (c : Dev nD) (t : Fin cfg0.N) (k : Fin 4) (l : Fin 128) :
    (iblk m c 8 t : Vec Ideal S4x1x128 .f32) (ix3 k 0 l) = (args m c).bhh (ix1 (row k (unit (tile t) l))) := by
  rw [← v5_at]
  blk_ext [iblk, idx t, unit_val]

/-- A point sees its units' columns of the output projection. -/
theorem blk_wout (c : Dev nD) (t : Fin cfg0.N) (v : Fin 16) (l : Fin 128) :
    (iblk m c 9 t : Vec Ideal S16x128 .f32) (ix2 v l) = (args m c).wout (ix2 v (unit (tile t) l)) := by
  unfold args
  blk_ext! [iblk, V, idx t, unit_val]

/-- Every point sees the whole output bias. -/
theorem blk_bout (c : Dev nD) (t : Fin cfg0.N) (v : Fin 16) :
    (iblk m c 10 t : Vec Ideal S1x16 .f32) (ix2 0 v) = (args m c).bout (ix1 v) := by
  rw [← v6_at]
  blk_ext [iblk, idx t]

/-- The tile's inputs are the step's arrays at its units. The bias pieces are any four that read the tile's bias block
    at the four gates. -/
theorem loaded (c : Dev nD) (t : Fin cfg0.N) (b d : Fin 4 → Vec Ideal S1x1x128 .f32)
    (hb : ∀ k l, b k (ix3 0 0 l) = (iblk m c 7 t : Vec Ideal S4x1x128 .f32) (ix3 k 0 l))
    (hd : ∀ k l, d k (ix3 0 0 l) = (iblk m c 8 t : Vec Ideal S4x1x128 .f32) (ix3 k 0 l)) :
    Loaded (args m c) (tile t) (iblk m c 0 t) (iblk m c 1 t) (iblk m c 2 t) (iblk m c 3 t) (iblk m c 4 t)
      (iblk m c 5 t) (iblk m c 6 t) b d where
  act_eq := blk_act m c t
  feat_eq := blk_feat m c t
  h0_at := blk_h0 m c t
  c0_at := blk_c0 m c t
  emb_eq := blk_emb m c t
  wih_at := blk_wih m c t
  whh_at := blk_whh m c t
  bih_at k l := (hb k l).trans (blk_bih m c t k l)
  bhh_at k l := (hd k l).trans (blk_bhh m c t k l)

/-- Gate `k`'s piece of a bias block. -/
def piece (x : Vec Ideal S4x1x128 .f32) (k : Fin 4) : Vec Ideal S1x1x128 .f32 := fun y => x (ix3 k 0 (y 2))

/-- Reading a bias block from gate `k` on, one gate long, gives that gate's piece. -/
theorem ld_piece (x : Vec Ideal S4x1x128 .f32) (k : Fin 4) (o : Fin 3 → ℕ) (ho : o = ![k.val, 0, 0])
    (inb : ∀ a, o a + ![1, 1, 128] a ≤ ![4, 1, 128] a) :
    View.ld x (Rect.unit o ![1, 1, 128] inb) = piece x k := by
  subst ho
  funext y
  refine View.ld_unit_apply_of x _ _ inb y _ fun a => ?_
  fin_cases a
  · show k.val = k.val + (y 0).val
    have h : (y 0).val < 1 := (y 0).isLt
    omega
  · show 0 = 0 + (y 1).val
    have h : (y 1).val < 1 := (y 1).isLt
    omega
  · exact (Nat.zero_add _).symm

/-- A point's inputs, with its bias pieces. -/
theorem pieces (c : Dev nD) (t : Fin cfg0.N) :
    Loaded (args m c) (tile t) (iblk m c 0 t) (iblk m c 1 t) (iblk m c 2 t) (iblk m c 3 t) (iblk m c 4 t)
      (iblk m c 5 t) (iblk m c 6 t) (piece (iblk m c 7 t)) (piece (iblk m c 8 t)) :=
  loaded m c t _ _ (fun _ _ => rfl) fun _ _ => rfl

variable {m}

/-- The cell states point `t` stores. -/
theorem cell_point (c : Dev nD) (hA : (args m c).InVocab) (t : Fin cfg0.N) (b : Fin 8) (l : Fin 128) :
    ((outsAt0 m c t.val t.isLt).2.1 : FVec Ideal S8x128 .f32) (ix2 b l) = cell (args m c) b (unit (tile t) l) := by
  by_cases h : t.val % 16 = 0
  · rw [outsAt0_A m c t h (by have := t.isLt.trans_eq N_0; omega)]
    frame_out
    simp only [ld_piece _ 0 ![0, 0, 0] rfl, ld_piece _ 1 ![1, 0, 0] rfl, ld_piece _ 2 ![2, 0, 0] rfl]
    exact cell_at hA (pieces m c t) b l
  · rw [outsAt0_B m c t h (by omega)]
    frame_out
    simp only [ld_piece _ 0 ![0, 0, 0] rfl, ld_piece _ 1 ![1, 0, 0] rfl, ld_piece _ 2 ![2, 0, 0] rfl]
    exact cell_at hA (pieces m c t) b l

/-- The hidden states point `t` stores. -/
theorem hid_point (c : Dev nD) (hA : (args m c).InVocab) (t : Fin cfg0.N) (b : Fin 8) (l : Fin 128) :
    ((outsAt0 m c t.val t.isLt).1 : FVec Ideal S8x128 .f32) (ix2 b l) = hid (args m c) b (unit (tile t) l) := by
  by_cases h : t.val % 16 = 0
  · rw [outsAt0_A m c t h (by have := t.isLt.trans_eq N_0; omega)]
    frame_out
    simp only [ld_piece _ 0 ![0, 0, 0] rfl, ld_piece _ 1 ![1, 0, 0] rfl, ld_piece _ 2 ![2, 0, 0] rfl,
      ld_piece _ 3 ![3, 0, 0] rfl]
    exact hid_at hA (pieces m c t) b l _ (cell_at hA (pieces m c t) b l)
  · rw [outsAt0_B m c t h (by omega)]
    frame_out
    simp only [ld_piece _ 0 ![0, 0, 0] rfl, ld_piece _ 1 ![1, 0, 0] rfl, ld_piece _ 2 ![2, 0, 0] rfl,
      ld_piece _ 3 ![3, 0, 0] rfl]
    exact hid_at hA (pieces m c t) b l _ (cell_at hA (pieces m c t) b l)

/-- The scores after the first point: its share plus the bias. -/
theorem score_first (c : Dev nD) (hA : (args m c).InVocab) (t : Fin cfg0.N) (h : t.val % 16 = 0) (b : Fin 8) (v : Fin 16) :
    ((outsAt0 m c t.val t.isLt).2.2 : FVec Ideal S8x16 .f32) (ix2 b v)
      = share (args m c) b v (tile t) + (args m c).bout (ix1 v) := by
  rw [outsAt0_A m c t h (by have := t.isLt.trans_eq N_0; omega)]
  frame_out
  simp only [ld_piece _ 0 ![0, 0, 0] rfl, ld_piece _ 1 ![1, 0, 0] rfl, ld_piece _ 2 ![2, 0, 0] rfl,
    ld_piece _ 3 ![3, 0, 0] rfl]
  exact (first_at (A := args m c) (t := tile t) _ _ _ _ b v
    (fun l => hid_at hA (pieces m c t) b l _ (cell_at hA (pieces m c t) b l)) (blk_wout m c t v)).trans
    (congrArg (_ + ·) (blk_bout m c t v))

/-- The scores after a later point: those of the point before plus its share. -/
theorem score_next (c : Dev nD) (hA : (args m c).InVocab) (t : Fin cfg0.N) (h : ¬t.val % 16 = 0) (b : Fin 8) (v : Fin 16) :
    ((outsAt0 m c t.val t.isLt).2.2 : FVec Ideal S8x16 .f32) (ix2 b v)
      = ((outsAt0 m c (t.val - 1) (Nat.lt_of_le_of_lt (Nat.sub_le _ _) t.isLt)).2.2 : FVec Ideal S8x16 .f32) (ix2 b v)
        + share (args m c) b v (tile t) := by
  rw [outsAt0_B m c t h (by omega)]
  frame_out
  simp only [ld_piece _ 0 ![0, 0, 0] rfl, ld_piece _ 1 ![1, 0, 0] rfl, ld_piece _ 2 ![2, 0, 0] rfl,
    ld_piece _ 3 ![3, 0, 0] rfl]
  exact later_at (A := args m c) (t := tile t) _ _ _ _ b v
    (fun l => hid_at hA (pieces m c t) b l _ (cell_at hA (pieces m c t) b l)) (blk_wout m c t v)

/-- The scores after the last point: every tile's share, and the bias. -/
theorem score_last (c : Dev nD) (hA : (args m c).InVocab) (b : Fin 8) (v : Fin 16) :
    ((outsAt0 m c t0_15.val t0_15.isLt).2.2 : FVec Ideal S8x16 .f32) (ix2 b v) = logit (args m c) b v := by
  rw [← shares, add_comm]
  exact Pipeline.eq_sum_fin_of_reset_step_last
    (fun n h => ((outsAt0 m c n h).2.2 : FVec Ideal S8x16 .f32) (ix2 b v)) 16 _ (fun t => share (args m c) b v (tile t))
    (fun t h => (score_first c hA t h b v).trans (add_comm _ _)) (fun t h => score_next c hA t h b v)
    (by decide) t0_15 rfl

/-- Where point `t` writes unit `l` of row `b` in the hidden-state array. -/
theorem place_hid (t : Fin cfg0.N) (b : Fin 8) (l : Fin 128) (X : FVec Ideal S8x2048 .f32) :
    X ((win0_11.blk t).view.emb (ix2 b l)) = X (ix2 b (unit (tile t) l)) := by
  blk_ext [idx t, unit_val]

/-- Where point `t` writes unit `l` of row `b` in the cell-state array. -/
theorem place_cell (t : Fin cfg0.N) (b : Fin 8) (l : Fin 128) (X : FVec Ideal S8x2048 .f32) :
    X ((win0_12.blk t).view.emb (ix2 b l)) = X (ix2 b (unit (tile t) l)) := by
  blk_ext [idx t, unit_val]

/-- The kernel's cell-state array at the end. -/
theorem final_cell (c : Dev nD) (hA : (args m c).InVocab) :
    (dats m 0 c).arrAt 12 (cfgs 0).N = (fun j => cell (args m c) (j 0) (j 1) : FVec Ideal S8x2048 .f32) := by
  refine (dats m 0 c).arrAt_eq_of_covers 12 _ (by decide +kernel) fun t _ y => ?_
  blk_simp
  rw [after0_12]
  idx_vars y
  exact (cell_point c hA t y0 y1).trans (place_cell t y0 y1 fun j => cell (args m c) (j 0) (j 1)).symm

/-- The kernel's hidden-state array at the end. -/
theorem final_hid (c : Dev nD) (hA : (args m c).InVocab) :
    (dats m 0 c).arrAt 11 (cfgs 0).N = (fun j => hid (args m c) (j 0) (j 1) : FVec Ideal S8x2048 .f32) := by
  refine (dats m 0 c).arrAt_eq_of_covers 11 _ (by decide +kernel) fun t _ y => ?_
  blk_simp
  rw [after0_11]
  idx_vars y
  exact (hid_point c hA t y0 y1).trans (place_hid t y0 y1 fun j => hid (args m c) (j 0) (j 1)).symm

/-- The kernel's score array at the end. -/
theorem final_logit (c : Dev nD) (hA : (args m c).InVocab) :
    (dats m 0 c).arrAt 13 (cfgs 0).N = (fun j => logit (args m c) (j 0) (j 1) : FVec Ideal S8x16 .f32) := by
  refine (dats m 0 c).arrAt_eq_of_after_last 13 t0_15 (by decide +kernel) _ fun j => ?_
  blk_simp
  rw [after0_13]
  idx_vars j
  exact score_last c hA j0 j1

end Cert.Arrays

end
-- ==== Proof.RefValue.lean ====
/- What the reference computes, at an index: its three results are the step's hidden state, cell state and scores. -/
module

public import proofs.«01_k».proof.Proof.Gen.ReferenceIdeal.Read
public import proofs.«01_k».proof.Proof.Spec
public import Idealize.ShloMosaic.Lib.Pointwise
public import Idealize.ShloMosaic.Lib.WordCmp
public import Idealize.ShloMosaic.Lib.ReduceAll

@[expose] public section

set_option maxRecDepth 16384

noncomputable section

namespace Cert.RefValue

open Idealize.ShloMosaic Idealize.ShloMosaic.TcCoe Idealize.SL.Sem
open Cert.ReferenceIdeal Cert.ReferenceIdeal.Gen Cert.ReferenceIdeal.Read Cert.Spec

variable (A : Args)

/-- The row number the table is read at is the action itself: it is not negative, so nothing is added to it. -/
theorem start_at (hA : A.InVocab) (b : Fin 8) : val_main_call0_v5 (F := Ideal) A.act (ix3 b 0 0) = A.act (ix2 b 0) := by
  pointwise [val_main_call0_v5, val_main_call0_v4, val_main_call0_v3, val_main_call0_v2, val_main_call0_v1,
    val_main_call0_v0, val_main_call0_c, val_main_call0_c_0]
  rw [WordCmp.cmpi_slt_zero, decide_eq_false (by have := hA b; omega)]
  rfl

/-- Every action passes the reference's range test, so no row is replaced by the fill value. -/
theorem mask_at (hA : A.InVocab) (i : S8x1x1.Idx) : val_main_call0_v11 (F := Ideal) A.act i = 1#1 := by
  idx_vars i
  obtain rfl : i1 = 0 := Subsingleton.elim _ _
  obtain rfl : i2 = 0 := Subsingleton.elim _ _
  pointwise [val_main_call0_v11, val_main_call0_v10, val_main_call0_v9, val_main_call0_v8, val_main_call0_v7,
    val_main_call0_v6, val_main_call0_c_1, val_main_call0_c_2]
  rw [start_at A hA, WordCmp.cmpi_sge_zero, decide_eq_true (by have := hA i0; omega)]
  rw [WordCmp.cmpi_sle_of_lt (by have := hA i0; omega) (by decide), decide_eq_true (by have := hA i0; show _ ≤ 15; omega)]
  rfl

/-- The table read at its row numbers: row `b` of the result is the chosen word's embedding. -/
theorem gather_at (hA : A.InVocab) (b : Fin 8) (j : Fin 256) :
    val_main_call0_v13 (F := Ideal) A.act A.emb (ix3 b 0 j) = A.emb (ix2 (word A b) j) := by
  have hs := start_at A hA b
  unfold val_main_call0_v13
  generalize val_main_call0_v5 (F := Ideal) A.act = s at hs
  unfold Host.gather
  refine congrArg A.emb (funext fun a => Fin.ext ?_)
  match a with
  | ⟨0, _⟩ =>
    have h : (gather_S16x256_S8x1x1_S8x1x256_2_0_n_n_0_2_1256.operandIdx (ix3 b 0 j) s 0).val
        = min (s (ix3 b 0 0)).toInt.toNat 15 + 0 + 0 := by
      show gather_S16x256_S8x1x1_S8x1x256_2_0_n_n_0_2_1256.start (ix3 b 0 j) s 0 + _ + _ = _
      refine congrArg₂ (· + ·) (congrArg₂ (· + ·) ?_ rfl) rfl
      unfold GatherDims.start
      rw [dif_pos (show (0 : Fin 2) ∈ gather_S16x256_S8x1x1_S8x1x256_2_0_n_n_0_2_1256.startIndexMap from List.mem_singleton.mpr rfl)]
      refine congrArg (fun z => min (s z).toInt.toNat 15) (funext fun a => Fin.ext ?_)
      match a with
      | ⟨0, _⟩ => rfl
      | ⟨1, _⟩ => rfl
      | ⟨2, _⟩ => rfl
    have hb := hA b
    refine h.trans ?_
    rw [hs, WordCmp.toInt_eq_toNat_of_lt_half (by omega)]
    show min (A.act (ix2 b 0)).toNat 15 + 0 + 0 = (A.act (ix2 b 0)).toNat % 16
    omega
  | ⟨1, _⟩ => exact Nat.zero_add _

/-- The embedding the reference looks up is the chosen word's. -/
theorem emb_at (hA : A.InVocab) (b : Fin 8) (j : Fin 256) :
    val_main_v0 (F := Ideal) A.act A.emb (ix3 b 0 j) = A.emb (ix2 (word A b) j) := by
  have hm : val_main_call0_v12 (F := Ideal) A.act (ix2 b 0) = 1#1 :=
    Host.reduce_andi_one _ _ _ _ _ rfl (mask_at A hA)
  pointwise [val_main_v0, val_main_call0_v14]
  rw [hm, gather_at A hA]
  rfl

/-- The reference's pre-activations, row `n` of the stacked gates. -/
theorem pre_at (hA : A.InVocab) (b : Fin 8) (n : Fin 8192) :
    val_main_v15 (F := Ideal) A.act A.feat A.h0 A.emb A.wih A.whh A.bih A.bhh (ix2 b n)
      = proj A b n + A.bih (ix1 n) + (∑ i : Fin 2048, A.h0 (ix3 0 b i) * A.whh (ix2 n i)) + A.bhh (ix1 n) := by
  pointwise [val_main_v15, val_main_v14, val_main_v13, val_main_v12, val_main_v11, val_main_v10, val_main_v9,
    val_main_v8, val_main_v7, val_main_v6, val_main_v5, val_main_v3, val_main_v2, val_main_v1]
  simp only [emb_at A hA]
  rfl

/-- Gate 0's rows are the first 2048. -/
theorem row_zero (j : Fin 2048) : row 0 j = ⟨j.val, by omega⟩ := Fin.ext (by show 0 * 2048 + j.val = j.val; omega)

/-- The reference's new cell state, before it is given its leading axis. -/
theorem cell_at (hA : A.InVocab) (b : Fin 8) (j : Fin 2048) :
    val_main_v41 (F := Ideal) A.act A.feat A.h0 A.c0 A.emb A.wih A.whh A.bih A.bhh (ix2 b j) = cell A b j := by
  have h0 : gate A 0 b j = _ := (pre_at A hA b (row 0 j)).symm
  have h1 : gate A 1 b j = _ := (pre_at A hA b (row 1 j)).symm
  have h2 : gate A 2 b j = _ := (pre_at A hA b (row 2 j)).symm
  unfold cell
  rw [h0, h1, h2, row_zero]
  pointwise [val_main_v41, val_main_v40, val_main_v39, val_main_v32, val_main_v31, val_main_v30, val_main_v29, val_main_v28,
    val_main_v27, val_main_v26, val_main_v25, val_main_v24, val_main_v23, val_main_v22, val_main_v21, val_main_v20,
    val_main_v18, val_main_v17, val_main_v16, val_main_v4, val_main_cst, val_main_cst_0, val_main_cst_1, val_main_cst_2]
  generalize val_main_v15 (F := Ideal) A.act A.feat A.h0 A.emb A.wih A.whh A.bih A.bhh = p
  rfl

/-- The reference's new hidden state, before it is given its leading axis. -/
theorem hid_at (hA : A.InVocab) (b : Fin 8) (j : Fin 2048) :
    val_main_v43 (F := Ideal) A.act A.feat A.h0 A.c0 A.emb A.wih A.whh A.bih A.bhh (ix2 b j) = hid A b j := by
  have h3 : gate A 3 b j = _ := (pre_at A hA b (row 3 j)).symm
  unfold hid
  rw [h3, ← cell_at A hA b j]
  pointwise [val_main_v43, val_main_v42, val_main_v38, val_main_v37, val_main_v36, val_main_v35, val_main_v34, val_main_v33,
    val_main_v19, val_main_cst_3, val_main_cst_4]
  generalize val_main_v15 (F := Ideal) A.act A.feat A.h0 A.emb A.wih A.whh A.bih A.bhh = p
  rfl

/-- The reference's first result is the new hidden state. -/
theorem out_hid (hA : A.InVocab) (i : Fin 1) (b : Fin 8) (j : Fin 2048) :
    val_main_v49 (F := Ideal) A.act A.feat A.h0 A.c0 A.emb A.wih A.whh A.bih A.bhh (ix3 i b j) = hid A b j := by
  rw [← hid_at A hA]
  pointwise [val_main_v49]

/-- The reference's second result is the new cell state. -/
theorem out_cell (hA : A.InVocab) (i : Fin 1) (b : Fin 8) (j : Fin 2048) :
    val_main_v50 (F := Ideal) A.act A.feat A.h0 A.c0 A.emb A.wih A.whh A.bih A.bhh (ix3 i b j) = cell A b j := by
  rw [← cell_at A hA]
  pointwise [val_main_v50]

/-- The reference's third result is the scores. -/
theorem out_logit (hA : A.InVocab) (b : Fin 8) (v : Fin 16) :
    val_main_v48 (F := Ideal) A.act A.feat A.h0 A.c0 A.emb A.wih A.whh A.bih A.bhh A.wout A.bout (ix2 b v) = logit A b v := by
  unfold logit
  simp only [← hid_at A hA]
  pointwise [val_main_v48, val_main_v47, val_main_v46, val_main_v45, val_main_v44]

end Cert.RefValue

end
-- ==== Proof.Equation.lean ====
/- The equation: run on the same arguments, with every action word in the vocabulary, the kernel and the reference end
   with the same hidden state, cell state and scores, which are the step's. -/
module

public import proofs.«01_k».proof.Defs
public import proofs.«01_k».proof.Proof.Arrays
public import proofs.«01_k».proof.Proof.RefValue
public import proofs.«01_k».proof.Proof.Gen.ReferenceIdeal.Run
public import proofs.«01_k».proof.Proof.Gen.ReferenceIdeal.Read
public import Idealize.ShloMosaic.Lib.WordCmp

@[expose] public section

set_option maxRecDepth 16384

noncomputable section

namespace Cert.Equation

open Idealize.ShloMosaic Idealize.ShloMosaic.TcCoe Idealize.SL.Sem
open Cert.Spec Cert.Arrays

/-- The shape relation the precondition's program takes: a single word spreads over the eight actions. -/
theorem preFacts : Cert.Pre_action_in_vocab.Facts := ⟨by decide⟩

/-- The precondition, read: every action word, as a natural number, is below 16. -/
theorem inVocab [Cert.Pre_action_in_vocab.Facts]
    (m : (ℓ : Loc Cert.KernelIdeal.nD Cert.KernelIdeal.τ Cert.KernelIdeal.sig) → Buf (Elt Ideal) ℓ)
    (h : Cert.Pre_KernelIdeal_action_in_vocab m) (c : Dev Cert.KernelIdeal.nD) : (args m c).InVocab := by
  intro b
  have hb := (WordCmp.andi_sge_zero_slt_ofNat (w := 32) (k := 16) (by decide) _).symm.trans (congrFun (h c) (ix2 b 0))
  exact (WordCmp.ofBool_decide_eq_one_iff _).mp hb

/-- The step's hidden states as a result array. -/
def hidArr (A : Args) : FVec Ideal Cert.KernelIdeal.S1x8x2048 .f32 := fun j => hid A (j 1) (j 2)

/-- The step's cell states as a result array. -/
def cellArr (A : Args) : FVec Ideal Cert.KernelIdeal.S1x8x2048 .f32 := fun j => cell A (j 1) (j 2)

/-- The step's scores as a result array. -/
def logitArr (A : Args) : FVec Ideal Cert.KernelIdeal.S8x16 .f32 := fun j => logit A (j 0) (j 1)

section
open Cert.KernelIdeal Cert.KernelIdeal.Gen

variable {m : (ℓ : Loc nD τ sig) → Buf (Elt Ideal) ℓ}

/-- The first result at the end: the hidden-state array under a leading axis of length one. -/
theorem tail_hid (c : Dev nD) (hA : (args m c).InVocab) :
    Pipeline.afterTail₀ cfgs (dats m) 0 (V0 m) [hostOps1] c main_v8 = hidArr (args m c) := by
  unfold Pipeline.afterTail₀
  show StableHlo.after (hostOps1 (F := Ideal)) _ (Proc.devRef .tc main_v8) = _
  after_results
  erw [Pipeline.withArrays_arr _ launch0.win.arr_inj c _ _ 11]
  rw [final_hid c hA]
  funext j
  idx_vars j
  pointwise [hidArr]

/-- The second result at the end: the cell-state array under a leading axis of length one. -/
theorem tail_cell (c : Dev nD) (hA : (args m c).InVocab) :
    Pipeline.afterTail₀ cfgs (dats m) 0 (V0 m) [hostOps1] c main_v9 = cellArr (args m c) := by
  unfold Pipeline.afterTail₀
  show StableHlo.after (hostOps1 (F := Ideal)) _ (Proc.devRef .tc main_v9) = _
  after_results
  erw [Pipeline.withArrays_arr _ launch0.win.arr_inj c _ _ 12]
  rw [final_cell c hA]
  funext j
  idx_vars j
  pointwise [cellArr]

end

/-- The kernel and the reference end with the same three results: the step's. -/
theorem algebraic [Cert.Pre_action_in_vocab.Facts] : Cert.algebraic_KernelIdeal_ReferenceIdeal_pre_action_in_vocab := by
  intro m g m' g' hpre hagree
  refine ⟨fun c => hidArr (args m c), fun c => cellArr (args m c), fun c => logitArr (args m c), ?_, ?_⟩
  · refine θ_run_mono (θ_run_and (Cert.KernelIdeal.Gen.run_main m g) (Cert.KernelIdeal.Gen.frame m g)) ?_
    rintro r ⟨hr, hf, -⟩ c
    have hA := inVocab m hpre c
    exact ⟨((hr c).2 _ (by decide)).trans (tail_hid c hA), ((hr c).2 _ (by decide)).trans (tail_cell c hA),
      ((hr c).1 13).trans (final_logit c hA), hf c⟩
  · refine θ_run_mono (Cert.ReferenceIdeal.Value.run m' g') ?_
    intro r hr c
    have hA := inVocab m hpre c
    obtain ⟨h1, h2, h3, hargs⟩ := hr c
    obtain ⟨e0, e1, e2, e3, -, e5, e6, e7, e8, e9, e10, e11⟩ := hagree c
    refine ⟨h1.trans ?_, h2.trans ?_, h3.trans ?_, hargs⟩
    · rw [Cert.ReferenceIdeal.Read.val_main_v49_eq, e0, e1, e2, e3, e5, e6, e7, e8, e9]
      funext j
      idx_vars j
      exact RefValue.out_hid (args m c) hA j0 j1 j2
    · rw [Cert.ReferenceIdeal.Read.val_main_v50_eq, e0, e1, e2, e3, e5, e6, e7, e8, e9]
      funext j
      idx_vars j
      exact RefValue.out_cell (args m c) hA j0 j1 j2
    · rw [Cert.ReferenceIdeal.Read.val_main_v48_eq, e0, e1, e2, e3, e5, e6, e7, e8, e9, e10, e11]
      funext j
      idx_vars j
      exact RefValue.out_logit (args m c) hA j0 j1

end Cert.Equation

end
-- ==== Proof.lean ====
/- The certificate's proof: each claim of `Cert.Claim` by its own theorem.
   The frames of the two kernel programs and of the reference are read off their runs; the idealization rewrites nothing;
   the equation of the three results is `Cert.Equation.algebraic`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference ends with its arguments unchanged; it declares no semaphore, so every counter is zero. -/
theorem frame_reference : Cert.quiescent_ReferenceIdeal := fun m g _ =>
  θ_run_mono (Cert.ReferenceIdeal.Value.run m g) fun r h =>
    ⟨fun c => (h c).2.2.2, sem_eq_zero_of_no_sems (by decide) r.2⟩

/-- Everything the certificate claims. -/
theorem claim : Cert.Claim :=
  ⟨Cert.Kernel.Gen.facts, Cert.KernelIdeal.Gen.facts, Cert.ReferenceIdeal.Gen.facts, Cert.Equation.preFacts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    @Cert.Equation.algebraic Cert.Equation.preFacts⟩

end Cert.Proof

end
